-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "snow" .bf16 0x3F73#16 ((15938355 / 16777216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x224x224 : Shape := ⟨4, ![4, 3, 224, 224]⟩
abbrev S4x224x224 : Shape := ⟨3, ![4, 224, 224]⟩
abbrev S4x1x224x224 : Shape := ⟨4, ![4, 1, 224, 224]⟩
abbrev S224 : Shape := ⟨1, ![224]⟩
abbrev S1x224 : Shape := ⟨2, ![1, 224]⟩
abbrev S224x1 : Shape := ⟨2, ![224, 1]⟩
abbrev S224x224 : Shape := ⟨2, ![224, 224]⟩
abbrev S_ : Shape := ⟨0, ![]⟩
abbrev S2x3x224x224 : Shape := ⟨4, ![2, 3, 224, 224]⟩
abbrev S2x1x224x224 : Shape := ⟨4, ![2, 1, 224, 224]⟩
abbrev S1x1x224x224 : Shape := ⟨4, ![1, 1, 224, 224]⟩

abbrev nBuf : Space → Nat
  | .hbm => 44
  | .vmem => 7
  | .smem => 0
  | _ => 0

abbrev bufTy : (tb : Table) → Fin (tcTables nBuf tb) → BufTy
  | .hbm, ⟨0, _⟩ => ⟨S4x3x224x224, .f32⟩
  | .hbm, ⟨1, _⟩ => ⟨S4x224x224, .i8⟩
  | .hbm, ⟨2, _⟩ => ⟨S4x1x224x224, .i8⟩
  | .hbm, ⟨3, _⟩ => ⟨S224, .i32⟩
  | .hbm, ⟨4, _⟩ => ⟨S1x224, .i32⟩
  | .hbm, ⟨5, _⟩ => ⟨S224, .i32⟩
  | .hbm, ⟨6, _⟩ => ⟨S224x1, .i32⟩
  | .hbm, ⟨7, _⟩ => ⟨S224x224, .i32⟩
  | .hbm, ⟨8, _⟩ => ⟨S224x224, .i32⟩
  | .hbm, ⟨9, _⟩ => ⟨S224x224, .i32⟩
  | .hbm, ⟨10, _⟩ => ⟨S_, .f32⟩
  | .hbm, ⟨11, _⟩ => ⟨S224x224, .f32⟩
  | .hbm, ⟨12, _⟩ => ⟨S_, .i32⟩
  | .hbm, ⟨13, _⟩ => ⟨S224x224, .i32⟩
  | .hbm, ⟨14, _⟩ => ⟨S224x224, .i1⟩
  | .hbm, ⟨15, _⟩ => ⟨S_, .f32⟩
  | .hbm, ⟨16, _⟩ => ⟨S224x224, .f32⟩
  | .hbm, ⟨17, _⟩ => ⟨S224x224, .f32⟩
  | .hbm, ⟨18, _⟩ => ⟨S_, .i32⟩
  | .hbm, ⟨19, _⟩ => ⟨S224x224, .i32⟩
  | .hbm, ⟨20, _⟩ => ⟨S224x224, .i1⟩
  | .hbm, ⟨21, _⟩ => ⟨S_, .f32⟩
  | .hbm, ⟨22, _⟩ => ⟨S224x224, .f32⟩
  | .hbm, ⟨23, _⟩ => ⟨S224x224, .f32⟩
  | .hbm, ⟨24, _⟩ => ⟨S_, .i32⟩
  | .hbm, ⟨25, _⟩ => ⟨S224x224, .i32⟩
  | .hbm, ⟨26, _⟩ => ⟨S224x224, .i1⟩
  | .hbm, ⟨27, _⟩ => ⟨S_, .f32⟩
  | .hbm, ⟨28, _⟩ => ⟨S224x224, .f32⟩
  | .hbm, ⟨29, _⟩ => ⟨S224x224, .f32⟩
  | .hbm, ⟨30, _⟩ => ⟨S_, .i32⟩
  | .hbm, ⟨31, _⟩ => ⟨S224x224, .i32⟩
  | .hbm, ⟨32, _⟩ => ⟨S224x224, .i1⟩
  | .hbm, ⟨33, _⟩ => ⟨S_, .f32⟩
  | .hbm, ⟨34, _⟩ => ⟨S224x224, .f32⟩
  | .hbm, ⟨35, _⟩ => ⟨S224x224, .f32⟩
  | .hbm, ⟨36, _⟩ => ⟨S_, .i32⟩
  | .hbm, ⟨37, _⟩ => ⟨S224x224, .i32⟩
  | .hbm, ⟨38, _⟩ => ⟨S224x224, .i1⟩
  | .hbm, ⟨39, _⟩ => ⟨S_, .f32⟩
  | .hbm, ⟨40, _⟩ => ⟨S224x224, .f32⟩
  | .hbm, ⟨41, _⟩ => ⟨S224x224, .f32⟩
  | .hbm, ⟨42, _⟩ => ⟨S224x224, .bf16⟩
  | .hbm, ⟨43, _⟩ => ⟨S4x3x224x224, .f32⟩
  | .local _ .vmem, ⟨0, _⟩ => ⟨S2x3x224x224, .f32⟩
  | .local _ .vmem, ⟨1, _⟩ => ⟨S2x3x224x224, .f32⟩
  | .local _ .vmem, ⟨2, _⟩ => ⟨S2x1x224x224, .i8⟩
  | .local _ .vmem, ⟨3, _⟩ => ⟨S2x1x224x224, .i8⟩
  | .local _ .vmem, ⟨4, _⟩ => ⟨S224x224, .bf16⟩
  | .local _ .vmem, ⟨5, _⟩ => ⟨S2x3x224x224, .f32⟩
  | .local _ .vmem, ⟨6, _⟩ => ⟨S2x3x224x224, .f32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_c_8 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x224x224 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S224x224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x3x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "snow" => some ((15938355 / 16777216 : ℝ) : EReal)
  | _ => none
-- ==== ReferenceIdeal.lean ====
abbrev S4x3x224x224 : Shape := ⟨4, ![4, 3, 224, 224]⟩
abbrev S4x752 : Shape := ⟨2, ![4, 752]⟩
abbrev S5 : Shape := ⟨1, ![5]⟩
abbrev S224 : Shape := ⟨1, ![224]⟩
abbrev S1x1x224 : Shape := ⟨3, ![1, 1, 224]⟩
abbrev S4x752x1 : Shape := ⟨3, ![4, 752, 1]⟩
abbrev S4x752x224 : Shape := ⟨3, ![4, 752, 224]⟩
abbrev S4x752x224x1 : Shape := ⟨4, ![4, 752, 224, 1]⟩
abbrev S4x752x1x224 : Shape := ⟨4, ![4, 752, 1, 224]⟩
abbrev S4x752x224x224 : Shape := ⟨4, ![4, 752, 224, 224]⟩
abbrev S_ : Shape := ⟨0, ![]⟩
abbrev S4x224x224 : Shape := ⟨3, ![4, 224, 224]⟩
abbrev S4x1x224x224 : Shape := ⟨4, ![4, 1, 224, 224]⟩
abbrev S5x1 : Shape := ⟨2, ![5, 1]⟩
abbrev S1x5 : Shape := ⟨2, ![1, 5]⟩
abbrev S5x5 : Shape := ⟨2, ![5, 5]⟩
abbrev S4x3x228x228 : Shape := ⟨4, ![4, 3, 228, 228]⟩
abbrev S1x1 : Shape := ⟨2, ![1, 1]⟩

abbrev nBuf : Space → Nat
  | .hbm => 205
  | .vmem => 0
  | .smem => 0
  | _ => 0

abbrev hbmTy0_0 (i : Nat) : BufTy := match i % 128 with
  | 0 => ⟨S4x3x224x224, .f32⟩
  | 1 => ⟨S4x752, .i32⟩
  | 2 => ⟨S4x752, .i32⟩
  | 3 => ⟨S4x752, .i32⟩
  | 4 => ⟨S5, .f32⟩
  | 5 => ⟨S224, .i32⟩
  | 6 => ⟨S1x1x224, .i32⟩
  | 7 => ⟨S4x752x1, .i32⟩
  | 8 => ⟨S4x752x224, .i32⟩
  | 9 => ⟨S4x752x224, .i32⟩
  | 10 => ⟨S4x752x224, .i32⟩
  | 11 => ⟨S4x752x224, .i32⟩
  | 12 => ⟨S4x752x1, .i32⟩
  | 13 => ⟨S4x752x224, .i32⟩
  | 14 => ⟨S4x752x224, .i1⟩
  | 15 => ⟨S224, .i32⟩
  | 16 => ⟨S1x1x224, .i32⟩
  | 17 => ⟨S4x752x1, .i32⟩
  | 18 => ⟨S4x752x224, .i32⟩
  | 19 => ⟨S4x752x224, .i32⟩
  | 20 => ⟨S4x752x224, .i32⟩
  | 21 => ⟨S4x752x224, .i32⟩
  | 22 => ⟨S4x752x1, .i32⟩
  | 23 => ⟨S4x752x224, .i32⟩
  | 24 => ⟨S4x752x224, .i1⟩
  | 25 => ⟨S4x752x224x1, .i1⟩
  | 26 => ⟨S4x752x1x224, .i1⟩
  | 27 => ⟨S4x752x224x224, .i1⟩
  | 28 => ⟨S4x752x224x224, .i1⟩
  | 29 => ⟨S4x752x224x224, .i1⟩
  | 30 => ⟨S_, .i1⟩
  | 31 => ⟨S4x224x224, .i1⟩
  | 32 => ⟨S4x1x224x224, .i1⟩
  | 33 => ⟨S_, .f32⟩
  | 34 => ⟨S4x3x224x224, .i1⟩
  | 35 => ⟨S4x3x224x224, .f32⟩
  | 36 => ⟨S4x3x224x224, .f32⟩
  | 37 => ⟨S5x1, .f32⟩
  | 38 => ⟨S1x5, .f32⟩
  | 39 => ⟨S5x5, .f32⟩
  | 40 => ⟨S5x5, .f32⟩
  | 41 => ⟨S5x5, .f32⟩
  | 42 => ⟨S_, .i32⟩
  | 43 => ⟨S_, .f32⟩
  | 44 => ⟨S4x3x228x228, .f32⟩
  | 45 => ⟨S_, .f32⟩
  | 46 => ⟨S4x3x224x224, .f32⟩
  | 47 => ⟨S1x1, .f32⟩
  | 48 => ⟨S_, .f32⟩
  | 49 => ⟨S4x3x224x224, .f32⟩
  | 50 => ⟨S4x3x224x224, .f32⟩
  | 51 => ⟨S4x3x224x224, .f32⟩
  | 52 => ⟨S4x3x224x224, .f32⟩
  | 53 => ⟨S1x1, .f32⟩
  | 54 => ⟨S_, .f32⟩
  | 55 => ⟨S4x3x224x224, .f32⟩
  | 56 => ⟨S4x3x224x224, .f32⟩
  | 57 => ⟨S4x3x224x224, .f32⟩
  | 58 => ⟨S4x3x224x224, .f32⟩
  | 59 => ⟨S1x1, .f32⟩
  | 60 => ⟨S_, .f32⟩
  | 61 => ⟨S4x3x224x224, .f32⟩
  | 62 => ⟨S4x3x224x224, .f32⟩
  | 63 => ⟨S4x3x224x224, .f32⟩
  | 64 => ⟨S4x3x224x224, .f32⟩
  | 65 => ⟨S1x1, .f32⟩
  | 66 => ⟨S_, .f32⟩
  | 67 => ⟨S4x3x224x224, .f32⟩
  | 68 => ⟨S4x3x224x224, .f32⟩
  | 69 => ⟨S4x3x224x224, .f32⟩
  | 70 => ⟨S4x3x224x224, .f32⟩
  | 71 => ⟨S1x1, .f32⟩
  | 72 => ⟨S_, .f32⟩
  | 73 => ⟨S4x3x224x224, .f32⟩
  | 74 => ⟨S4x3x224x224, .f32⟩
  | 75 => ⟨S4x3x224x224, .f32⟩
  | 76 => ⟨S4x3x224x224, .f32⟩
  | 77 => ⟨S1x1, .f32⟩
  | 78 => ⟨S_, .f32⟩
  | 79 => ⟨S4x3x224x224, .f32⟩
  | 80 => ⟨S4x3x224x224, .f32⟩
  | 81 => ⟨S4x3x224x224, .f32⟩
  | 82 => ⟨S4x3x224x224, .f32⟩
  | 83 => ⟨S1x1, .f32⟩
  | 84 => ⟨S_, .f32⟩
  | 85 => ⟨S4x3x224x224, .f32⟩
  | 86 => ⟨S4x3x224x224, .f32⟩
  | 87 => ⟨S4x3x224x224, .f32⟩
  | 88 => ⟨S4x3x224x224, .f32⟩
  | 89 => ⟨S1x1, .f32⟩
  | 90 => ⟨S_, .f32⟩
  | 91 => ⟨S4x3x224x224, .f32⟩
  | 92 => ⟨S4x3x224x224, .f32⟩
  | 93 => ⟨S4x3x224x224, .f32⟩
  | 94 => ⟨S4x3x224x224, .f32⟩
  | 95 => ⟨S1x1, .f32⟩
  | 96 => ⟨S_, .f32⟩
  | 97 => ⟨S4x3x224x224, .f32⟩
  | 98 => ⟨S4x3x224x224, .f32⟩
  | 99 => ⟨S4x3x224x224, .f32⟩
  | 100 => ⟨S4x3x224x224, .f32⟩
  | 101 => ⟨S1x1, .f32⟩
  | 102 => ⟨S_, .f32⟩
  | 103 => ⟨S4x3x224x224, .f32⟩
  | 104 => ⟨S4x3x224x224, .f32⟩
  | 105 => ⟨S4x3x224x224, .f32⟩
  | 106 => ⟨S4x3x224x224, .f32⟩
  | 107 => ⟨S1x1, .f32⟩
  | 108 => ⟨S_, .f32⟩
  | 109 => ⟨S4x3x224x224, .f32⟩
  | 110 => ⟨S4x3x224x224, .f32⟩
  | 111 => ⟨S4x3x224x224, .f32⟩
  | 112 => ⟨S4x3x224x224, .f32⟩
  | 113 => ⟨S1x1, .f32⟩
  | 114 => ⟨S_, .f32⟩
  | 115 => ⟨S4x3x224x224, .f32⟩
  | 116 => ⟨S4x3x224x224, .f32⟩
  | 117 => ⟨S4x3x224x224, .f32⟩
  | 118 => ⟨S4x3x224x224, .f32⟩
  | 119 => ⟨S1x1, .f32⟩
  | 120 => ⟨S_, .f32⟩
  | 121 => ⟨S4x3x224x224, .f32⟩
  | 122 => ⟨S4x3x224x224, .f32⟩
  | 123 => ⟨S4x3x224x224, .f32⟩
  | 124 => ⟨S4x3x224x224, .f32⟩
  | 125 => ⟨S1x1, .f32⟩
  | 126 => ⟨S_, .f32⟩
  | 127 => ⟨S4x3x224x224, .f32⟩
  | _ => ⟨S4x3x224x224, .f32⟩

abbrev hbmTy0_1 (i : Nat) : BufTy := match i % 128 with
  | 0 => ⟨S4x3x224x224, .f32⟩
  | 1 => ⟨S4x3x224x224, .f32⟩
  | 2 => ⟨S4x3x224x224, .f32⟩
  | 3 => ⟨S1x1, .f32⟩
  | 4 => ⟨S_, .f32⟩
  | 5 => ⟨S4x3x224x224, .f32⟩
  | 6 => ⟨S4x3x224x224, .f32⟩
  | 7 => ⟨S4x3x224x224, .f32⟩
  | 8 => ⟨S4x3x224x224, .f32⟩
  | 9 => ⟨S1x1, .f32⟩
  | 10 => ⟨S_, .f32⟩
  | 11 => ⟨S4x3x224x224, .f32⟩
  | 12 => ⟨S4x3x224x224, .f32⟩
  | 13 => ⟨S4x3x224x224, .f32⟩
  | 14 => ⟨S4x3x224x224, .f32⟩
  | 15 => ⟨S1x1, .f32⟩
  | 16 => ⟨S_, .f32⟩
  | 17 => ⟨S4x3x224x224, .f32⟩
  | 18 => ⟨S4x3x224x224, .f32⟩
  | 19 => ⟨S4x3x224x224, .f32⟩
  | 20 => ⟨S4x3x224x224, .f32⟩
  | 21 => ⟨S1x1, .f32⟩
  | 22 => ⟨S_, .f32⟩
  | 23 => ⟨S4x3x224x224, .f32⟩
  | 24 => ⟨S4x3x224x224, .f32⟩
  | 25 => ⟨S4x3x224x224, .f32⟩
  | 26 => ⟨S4x3x224x224, .f32⟩
  | 27 => ⟨S1x1, .f32⟩
  | 28 => ⟨S_, .f32⟩
  | 29 => ⟨S4x3x224x224, .f32⟩
  | 30 => ⟨S4x3x224x224, .f32⟩
  | 31 => ⟨S4x3x224x224, .f32⟩
  | 32 => ⟨S4x3x224x224, .f32⟩
  | 33 => ⟨S1x1, .f32⟩
  | 34 => ⟨S_, .f32⟩
  | 35 => ⟨S4x3x224x224, .f32⟩
  | 36 => ⟨S4x3x224x224, .f32⟩
  | 37 => ⟨S4x3x224x224, .f32⟩
  | 38 => ⟨S4x3x224x224, .f32⟩
  | 39 => ⟨S1x1, .f32⟩
  | 40 => ⟨S_, .f32⟩
  | 41 => ⟨S4x3x224x224, .f32⟩
  | 42 => ⟨S4x3x224x224, .f32⟩
  | 43 => ⟨S4x3x224x224, .f32⟩
  | 44 => ⟨S4x3x224x224, .f32⟩
  | 45 => ⟨S1x1, .f32⟩
  | 46 => ⟨S_, .f32⟩
  | 47 => ⟨S4x3x224x224, .f32⟩
  | 48 => ⟨S4x3x224x224, .f32⟩
  | 49 => ⟨S4x3x224x224, .f32⟩
  | 50 => ⟨S4x3x224x224, .f32⟩
  | 51 => ⟨S1x1, .f32⟩
  | 52 => ⟨S_, .f32⟩
  | 53 => ⟨S4x3x224x224, .f32⟩
  | 54 => ⟨S4x3x224x224, .f32⟩
  | 55 => ⟨S4x3x224x224, .f32⟩
  | 56 => ⟨S4x3x224x224, .f32⟩
  | 57 => ⟨S1x1, .f32⟩
  | 58 => ⟨S_, .f32⟩
  | 59 => ⟨S4x3x224x224, .f32⟩
  | 60 => ⟨S4x3x224x224, .f32⟩
  | 61 => ⟨S4x3x224x224, .f32⟩
  | 62 => ⟨S4x3x224x224, .f32⟩
  | 63 => ⟨S1x1, .f32⟩
  | 64 => ⟨S_, .f32⟩
  | 65 => ⟨S4x3x224x224, .f32⟩
  | 66 => ⟨S4x3x224x224, .f32⟩
  | 67 => ⟨S4x3x224x224, .f32⟩
  | 68 => ⟨S4x3x224x224, .f32⟩
  | 69 => ⟨S_, .f32⟩
  | 70 => ⟨S_, .f32⟩
  | 71 => ⟨S_, .f32⟩
  | 72 => ⟨S4x3x224x224, .f32⟩
  | 73 => ⟨S4x3x224x224, .f32⟩
  | 74 => ⟨S_, .f32⟩
  | 75 => ⟨S4x3x224x224, .f32⟩
  | 76 => ⟨S4x3x224x224, .f32⟩
  | _ => ⟨S4x3x224x224, .f32⟩

abbrev hbmTy (i : Nat) : BufTy := match i / 128 with
  | 0 => hbmTy0_0 i
  | 1 => hbmTy0_1 i
  | _ => ⟨S4x3x224x224, .f32⟩

abbrev bufTy : (tb : Table) → Fin (tcTables nBuf tb) → BufTy
  | .hbm, ⟨i, _⟩ => hbmTy i
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_4 : Ref sig .tc := ⟨.hbm, 42, rfl⟩
abbrev main_call1_v0 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_cst_6 : Ref sig .tc := ⟨.hbm, 197, rfl⟩
abbrev main_cst_7 : Ref sig .tc := ⟨.hbm, 198, rfl⟩
abbrev main_call2_v0 : Ref sig .tc := ⟨.hbm, 199, rfl⟩
abbrev main_call2_v1 : Ref sig .tc := ⟨.hbm, 200, rfl⟩
abbrev main_call2_v2 : Ref sig .tc := ⟨.hbm, 201, rfl⟩
abbrev main_call2_v3 : Ref sig .tc := ⟨.hbm, 202, rfl⟩
abbrev main_call2_v4 : Ref sig .tc := ⟨.hbm, 203, rfl⟩
abbrev main_v185 : Ref sig .tc := ⟨.hbm, 204, rfl⟩

abbrev nD : Nat := 1
abbrev τ : Topo := Topo.v7x

variable {F : FTy → Type} [FloatOps F]
-- ==== Proof.Block.lean ====
/-
  WHAT ONE GRID POINT COMPUTES. Two images of three channels each: of every channel the pixels under the mask are
  overwritten, the band matrix multiplies from the left and from the right, and the result is clipped to `[0, 1]`.
-/
module

public import proofs.«01_k».proof.Proof.Gen.KernelIdeal.Frame
public import Idealize.ShloMosaic.Lib.Pointwise

@[expose] public section

set_option maxRecDepth 16384

noncomputable section

namespace Cert.Proof.Block

open Idealize.ShloMosaic Cert.KernelIdeal Cert.KernelIdeal.Gen

/-- The snow's grey. -/
def snow : EReal := ((15938355 / 16777216 : ℝ) : EReal)

/-- The overwritten image: the grey where the mask's byte is nonzero, else the pixel. -/
def snowed (k : Fin 224 → Fin 224 → BitVec 8) (x : Fin 224 → Fin 224 → EReal) (p q : Fin 224) : EReal :=
  if k p q = 0#8 then x p q else snow

/-- One channel after the body: the image between two copies of the matrix `a`, clipped. -/
def channel (a : Fin 224 → Fin 224 → EReal) (s : Fin 224 → Fin 224 → EReal) (i j : Fin 224) : EReal :=
  min 1 (max 0 (∑ q, (∑ p, a i p * s p q) * a q j))

/-- The named constant's value. -/
theorem named_snow : (Named.named (F := Ideal) κ "snow" (φ := .bf16) 0x3F73#16 : EReal) = snow :=
  IdealRules.named_const.ideal_named_scalar _ _ _ _ rfl

/-- The select on the mask's byte, as the kernel spells it. -/
theorem select_mask (k : BitVec 8) (x : EReal) :
    Scalar.select (IntOp.cmpi CmpIPredicate.ne k 0#8) snow x = if k = 0#8 then x else snow := by
  by_cases h : k = 0#8
  · subst h; rfl
  · have : (k != 0#8) = true := by simpa using h
    simp [Scalar.select, IntOp.cmpi, this, h]

variable (x0 : Vec Ideal S2x3x224x224 .f32) (x1 : Vec Ideal S2x1x224x224 .i8) (x2 : Vec Ideal S224x224 .bf16)

/-- The block of a grid point, from the blocks of its three inputs. -/
def block (y : S2x3x224x224.Idx) : EReal :=
  channel (fun r c => x2 (ix2 r c)) (snowed (fun p q => x1 (ix4 (y 0) 0 p q)) (fun p q => x0 (ix4 (y 0) (y 1) p q))) (y 2) (y 3)

/-- A stored index is placed as a loaded one is. -/
theorem emb_eq {s : Shape} (r : Rect s) (x : r.shape.Idx) : r.emb x = r.idx x := rfl

/-- Every one of the six stores writes its part of `block`. -/
theorem out_eq : out0_3 x0 x1 x2 = block x0 x1 x2 := by
  funext y
  unfold_out out0_3
  refine View.canon_apply_of_pieces (Val := Elt Ideal) (block x0 x1 x2) _ ?_ y (cover0_3 _ _ _ _ _ _ y)
  intro p hp
  simp only [List.mem_cons, List.not_mem_nil, or_false] at hp
  rcases hp with rfl | rfl | rfl | rfl | rfl | rfl
  all_goals
    intro (x : S1x1x224x224.Idx)
    obtain ⟨a, b, i, j, rfl⟩ : ∃ (a b : Fin 1) (i j : Fin 224), x = ix4 a b i j := ⟨x 0, x 1, x 2, x 3, eq_ix4 x⟩
    obtain rfl : a = 0 := Subsingleton.elim _ _
    obtain rfl : b = 0 := Subsingleton.elim _ _
    dsimp only
    rw [emb_eq]
    unfold_payloads
    unfold block channel snowed
    pointwise [r0_0, r0_1, r0_2, r0_3, r0_4, r0_5, r0_6, r0_7, r0_8, named_snow, select_mask]

end Cert.Proof.Block

end
-- ==== Proof.Tables.lean ====
/-
  READING A LONG TABLE. A constant array is held as a tree of case distinctions on the digits of the index. `pick` is one
  such case distinction over a function, `digits` the tree of three of them. A table that is `digits f` reads `f` at every
  index below its length.
-/
module

public import Idealize.ShloMosaic.Lib.Tactic

@[expose] public section

namespace Cert.Proof.Tables

/-- The case distinction `x = o`, `x = o + 1`, …, of `n` cases, the case `x = k` answering `g k`; otherwise `d`. -/
def pick {α : Type} (g : Nat → α) (d : α) (x : Nat) : Nat → Nat → α
  | 0, _ => d
  | n + 1, o => if h : x = o then Eq.ndrec_symm (motive := fun _ => α) (g o) h else pick g d x n (o + 1)

/-- A number that one of the cases names is answered by `g`. -/
theorem pick_eq {α : Type} (g : Nat → α) (d : α) (x : Nat) :
    ∀ n o : Nat, o ≤ x → x < o + n → pick g d x n o = g x
  | 0, o, h, h' => absurd h' (by omega)
  | n + 1, o, h, h' => by
    unfold pick
    by_cases hx : x = o
    · subst hx; simp
    · rw [dif_neg hx]
      exact pick_eq g d x n (o + 1) (by omega) (by omega)

/-- The tree over three digits to the base 128: `na` values of the first digit, the last of them with only `nl` values of
    the second. -/
def digits {α : Type} (f : Nat → α) (d : α) (na nl i : Nat) : α :=
  pick (fun a => pick (fun b => pick (fun c => f (16384 * a + 128 * b + c)) d (i % 128) 128 0) d (i / 128 % 128)
    (bif a + 1 == na then nl else 128) 0) d (i / 16384) na 0

/-- Below its length `16384 (na − 1) + 128 nl` the tree of `f` reads `f`. -/
theorem digits_eq {α : Type} (f : Nat → α) (d : α) (na nl i : Nat) (hl : nl ≤ 128)
    (hi : i + 16384 < 16384 * na + 128 * nl) : digits f d na nl i = f i := by
  unfold digits
  rw [pick_eq _ _ _ _ _ (Nat.zero_le _) (by omega), pick_eq _ _ _ _ _ (Nat.zero_le _) ?_,
    pick_eq _ _ _ _ _ (Nat.zero_le _) (by omega)]
  · congr 1; omega
  · by_cases h : i / 16384 + 1 = na
    · simp only [h, beq_self_eq_true, cond_true]; omega
    · have : (i / 16384 + 1 == na) = false := by simpa using h
      simp only [this, cond_false]; omega

/-- The bitwise "or" of `f lo`, …, `f (lo + 2 ^ k − 1)`, halving the range. -/
def orRange (f : Nat → Nat) : Nat → Nat → Nat
  | 0, lo => f lo
  | k + 1, lo => orRange f k lo ||| orRange f k (lo + 2 ^ k)

/-- A bit of the "or" over a range is set exactly when some number of the range sets it. -/
theorem testBit_orRange (f : Nat → Nat) (i : Nat) : ∀ k lo : Nat,
    (orRange f k lo).testBit i = true ↔ ∃ n, lo ≤ n ∧ n < lo + 2 ^ k ∧ (f n).testBit i = true
  | 0, lo => by
    simp only [orRange, Nat.pow_zero]
    constructor
    · intro h; exact ⟨lo, by omega, by omega, h⟩
    · rintro ⟨n, h1, h2, h3⟩
      rwa [show lo = n by omega]
  | k + 1, lo => by
    have e : lo + 2 ^ (k + 1) = lo + 2 ^ k + 2 ^ k := by rw [Nat.pow_succ]; omega
    simp only [orRange, Nat.testBit_or, Bool.or_eq_true, testBit_orRange f i k]
    constructor
    · rintro (⟨n, h1, h2, h3⟩ | ⟨n, h1, h2, h3⟩)
      · exact ⟨n, h1, by omega, h3⟩
      · exact ⟨n, by omega, by omega, h3⟩
    · rintro ⟨n, h1, h2, h3⟩
      rcases Nat.lt_or_ge n (lo + 2 ^ k) with h | h
      · exact .inl ⟨n, h1, h, h3⟩
      · exact .inr ⟨n, h, by omega, h3⟩

end Cert.Proof.Tables
-- ==== Proof.Draws.lean ====
/-
  THE MASK AS ONE NUMBER. The square patches of the reference's three tables of draws are painted, as bits, into one large
  number; the kernel's mask table is then compared with it byte by byte.
-/
module

public import proofs.«01_k».proof.KernelIdeal
public import proofs.«01_k».proof.ReferenceIdeal
public import proofs.«01_k».proof.Proof.Tables

@[expose] public section

set_option maxRecDepth 16384

noncomputable section

namespace Cert.Proof.Mask

open Cert.Proof.Tables

/-- The row of patch `m`'s centre. Patches `752 b`, …, `752 b + 751` are those of image `b`. -/
def py (m : Nat) : Nat := (Cert.ReferenceIdeal.lit0t m).toNat
/-- The column of patch `m`'s centre. -/
def px (m : Nat) : Nat := (Cert.ReferenceIdeal.lit1t m).toNat
/-- The radius of patch `m`. -/
def pr (m : Nat) : Nat := (Cert.ReferenceIdeal.lit2t m).toNat

/-- The 224 bits of one image row, those set that lie within `r` of `x`. -/
def run (x r : Nat) : Nat := (((2 ^ (2 * r + 1) - 1) <<< x) >>> r) % 2 ^ 224

/-- One row of a square patch of image `b`, the `k`-th from its top, at its place among the bits of all images;
    nothing where the patch has no such row or the image does not. -/
def patchRow (b y x r k : Nat) : Nat :=
  bif Nat.ble r (y + k) && Nat.ble k (2 * r) && Nat.blt (y + k) (224 + r)
    then run x r <<< (224 * (224 * b + (y + k - r))) else 0

/-- Every bit that patch `m` covers. -/
def patch (m : Nat) : Nat :=
  bif Nat.blt m 3008 then orRange (patchRow (m / 752) (py m) (px m) (pr m)) 3 0 else 0

/-- All the patches of all four images: the bit of `(b, Y, X)` is bit `224 (224 b + Y) + X`. -/
def painted : Nat := orRange patch 12 0

/-- What the mask table holds at the row-major index `i`. -/
def maskByte (i : Nat) : BitVec 8 := BitVec.ofNat 8 ((painted >>> i) % 2)

/-- No radius is above 3 and no centre outside the image (checked draw by draw). -/
theorem draws_small : (List.range 3008).all (fun m => Nat.blt (py m) 224 && Nat.blt (px m) 224 && Nat.blt (pr m) 4) = true := by
  decide +kernel

/-- The mask table is the tree of `maskByte` (checked byte by byte). -/
theorem table_eq (i : Nat) : Cert.KernelIdeal.lit0t i = digits maskByte 0#8 13 32 i := by
  sl_kernel_rfl

end Cert.Proof.Mask

end
-- ==== Proof.Mask.lean ====
/-
  THE KERNEL'S MASK TABLE against the reference's random draws: the table's byte at `(b, Y, X)` is nonzero exactly when
  one of the 752 patches of image `b`, with centre `(y, x)` and radius `r` in the reference's tables of draws, covers
  `(Y, X)`.
-/
module

public import proofs.«01_k».proof.Proof.Draws

@[expose] public section

namespace Cert.Proof.Mask

open Cert.Proof.Tables

theorem testBit_run (x r X : Nat) (hX : X < 224) :
    (run x r).testBit X = true ↔ X ≤ x + r ∧ x ≤ X + r := by
  unfold run
  rw [Nat.testBit_mod_two_pow, Nat.testBit_shiftRight, Nat.testBit_shiftLeft, Nat.testBit_two_pow_sub_one]
  simp only [Bool.and_eq_true, decide_eq_true_eq]
  omega

theorem run_lt (x r : Nat) : run x r < 2 ^ 224 := Nat.mod_lt _ (by positivity)

theorem testBit_patchRow (b y x r k B Y X : Nat) (hY : Y < 224) (hX : X < 224) :
    (patchRow b y x r k).testBit (224 * (224 * B + Y) + X) = true ↔
      B = b ∧ Y + r = y + k ∧ k ≤ 2 * r ∧ X ≤ x + r ∧ x ≤ X + r := by
  unfold patchRow
  by_cases h : r ≤ y + k ∧ k ≤ 2 * r ∧ y + k < 224 + r
  · have hc : (Nat.ble r (y + k) && Nat.ble k (2 * r) && Nat.blt (y + k) (224 + r)) = true := by
      simp only [Bool.and_eq_true, Nat.ble_eq, Nat.blt_eq]; omega
    rw [hc, cond_true, Nat.testBit_shiftLeft, Bool.and_eq_true, decide_eq_true_eq]
    constructor
    · rintro ⟨h1, h2⟩
      have h3 : 224 * (224 * B + Y) + X - 224 * (224 * b + (y + k - r)) < 224 := by
        by_contra h4
        rw [Nat.testBit_lt_two_pow
          ((run_lt x r).trans_le (Nat.pow_le_pow_right (by omega) (Nat.le_of_not_lt h4)))] at h2
        exact absurd h2 (by simp)
      have h5 : 224 * B + Y = 224 * b + (y + k - r) := by omega
      have h6 : 224 * (224 * B + Y) + X - 224 * (224 * b + (y + k - r)) = X := by omega
      rw [h6, testBit_run x r X hX] at h2
      omega
    · rintro ⟨h1, h2, -, h3⟩
      subst h1
      have h5 : y + k - r = Y := by omega
      rw [h5, Nat.add_sub_cancel_left, testBit_run x r X hX]
      omega
  · have hc : (Nat.ble r (y + k) && Nat.ble k (2 * r) && Nat.blt (y + k) (224 + r)) = false := by
      rw [Bool.eq_false_iff]
      simp only [ne_eq, Bool.and_eq_true, Nat.ble_eq, Nat.blt_eq]; omega
    rw [hc, cond_false, Nat.zero_testBit]
    constructor
    · intro h; exact absurd h (by simp)
    · intro h'; omega

theorem draw_small (m : Nat) (hm : m < 3008) : py m < 224 ∧ px m < 224 ∧ pr m < 4 := by
  have h := List.all_eq_true.1 draws_small m (List.mem_range.2 hm)
  simp only [Bool.and_eq_true, Nat.blt_eq] at h
  exact ⟨h.1.1, h.1.2, h.2⟩

/-- Patch `n` of image `b` covers the pixel `(Y, X)`: both distances to its centre are at most its radius. -/
def Covers (b n Y X : Nat) : Prop :=
  (Y ≤ py (752 * b + n) + pr (752 * b + n) ∧ py (752 * b + n) ≤ Y + pr (752 * b + n))
    ∧ (X ≤ px (752 * b + n) + pr (752 * b + n) ∧ px (752 * b + n) ≤ X + pr (752 * b + n))

theorem testBit_painted (b Y X : Nat) (hb : b < 4) (hY : Y < 224) (hX : X < 224) :
    painted.testBit (224 * (224 * b + Y) + X) = true ↔ ∃ n < 752, Covers b n Y X := by
  unfold painted Covers
  rw [testBit_orRange]
  constructor
  · rintro ⟨m, -, hm, h⟩
    unfold patch at h
    by_cases h3 : m < 3008
    · rw [show Nat.blt m 3008 = true by rwa [Nat.blt_eq], cond_true, testBit_orRange] at h
      obtain ⟨k, -, hk, h⟩ := h
      rw [testBit_patchRow _ _ _ _ _ _ _ _ hY hX] at h
      have e : 752 * b + (m - 752 * b) = m := by omega
      refine ⟨m - 752 * b, by omega, ?_⟩
      rw [e]
      omega
    · rw [show Nat.blt m 3008 = false by rw [Bool.eq_false_iff, ne_eq, Nat.blt_eq]; exact h3, cond_false, Nat.zero_testBit] at h
      exact absurd h (by simp)
  · rintro ⟨n, hn, h⟩
    refine ⟨752 * b + n, Nat.zero_le _, by omega, ?_⟩
    have hr := (draw_small (752 * b + n) (by omega)).2.2
    unfold patch
    rw [show Nat.blt (752 * b + n) 3008 = true by rw [Nat.blt_eq]; omega, cond_true, testBit_orRange]
    refine ⟨Y + pr (752 * b + n) - py (752 * b + n), Nat.zero_le _, by omega, ?_⟩
    rw [testBit_patchRow _ _ _ _ _ _ _ _ hY hX]
    omega

/-- THE MASK. The table's byte at image `b`, row `Y` and column `X` is nonzero exactly when a patch of the image covers
    the pixel. -/
theorem table_ne_zero (b : Fin 4) (Y X : Fin 224) (h : 50176 * b.val + 224 * Y.val + X.val < 200704) :
    Cert.KernelIdeal.lit0 ⟨50176 * b.val + 224 * Y.val + X.val, h⟩ ≠ 0#8 ↔ ∃ n < 752, Covers b n Y X := by
  rw [← testBit_painted b Y X b.isLt Y.isLt X.isLt]
  show Cert.KernelIdeal.lit0t _ ≠ _ ↔ _
  rw [table_eq, digits_eq _ _ _ _ _ (by omega) (by omega)]
  rw [show 50176 * b.val + 224 * Y.val + X.val = 224 * (224 * b.val + Y.val) + X.val by omega]
  unfold maskByte
  rw [Nat.testBit_eq_decide_div_mod_eq, decide_eq_true_eq, Nat.shiftRight_eq_div_pow]
  rcases Nat.mod_two_eq_zero_or_one (painted / 2 ^ (224 * (224 * b.val + Y.val) + X.val)) with h | h <;> rw [h] <;> decide

end Cert.Proof.Mask
-- ==== Proof.Band.lean ====
/-
  THE KERNEL'S BAND MATRIX, word by word: entry `(r, c)` is the weight word of the distance `c − r` within the band of
  width 5, and the zero word outside. The program chooses it by five comparisons of the word `c − r`.
-/
module

public import proofs.«01_k».proof.KernelIdeal

@[expose] public section

namespace Cert.Proof.Band

open Idealize.ShloMosaic

/-- The float32 word at row `r` and column `c`: the middle weight on the diagonal, the inner weight beside it, the outer
    weight two away, zero elsewhere. -/
def bandNat (r c : Nat) : Nat :=
  bif c == r then 0x3E958BBC else
  bif c == r + 1 || r == c + 1 then 0x3E6F7E6F else
  bif c == r + 2 || r == c + 2 then 0x3DF5EBA9 else 0

/-- A choice by a comparison of words is a case distinction on their equality. -/
theorem select_eq {α : Type} (a b : BitVec 32) (x y : α) :
    Scalar.select (IntOp.cmpi .eq a b) x y = if a = b then x else y := by
  by_cases h : a = b
  · subst h; simp [Scalar.select, IntOp.cmpi]
  · have e : (a == b) = false := by simpa using h
    simp [Scalar.select, IntOp.cmpi, h, e]

/-- The word `c − r` is the word of the distance `k − 2` exactly when `c + 2 = r + k`. -/
theorem shift_iff (r c : Fin 224) (k : Nat) (hk : k < 5) :
    IntOp.subi (BitVec.ofNat 32 c.val) (BitVec.ofNat 32 r.val) = BitVec.ofNat 32 (4294967294 + k)
      ↔ c.val + 2 = r.val + k := by
  have := r.isLt
  have := c.isLt
  rw [← BitVec.toNat_inj]
  simp only [IntOp.subi, BitVec.toNat_sub, BitVec.toNat_ofNat]
  omega

/-- The five choices, over any values: the value of the distance, or the last one outside the band. -/
theorem choices {α : Type} (r c : Fin 224) (f : Nat → α) :
    Scalar.select (IntOp.cmpi .eq (IntOp.subi (BitVec.ofNat 32 c.val) (BitVec.ofNat 32 r.val)) 2#32) (f 0x3DF5EBA9)
      (Scalar.select (IntOp.cmpi .eq (IntOp.subi (BitVec.ofNat 32 c.val) (BitVec.ofNat 32 r.val)) 1#32) (f 0x3E6F7E6F)
        (Scalar.select (IntOp.cmpi .eq (IntOp.subi (BitVec.ofNat 32 c.val) (BitVec.ofNat 32 r.val)) 0#32) (f 0x3E958BBC)
          (Scalar.select (IntOp.cmpi .eq (IntOp.subi (BitVec.ofNat 32 c.val) (BitVec.ofNat 32 r.val)) 4294967295#32)
            (f 0x3E6F7E6F)
            (Scalar.select (IntOp.cmpi .eq (IntOp.subi (BitVec.ofNat 32 c.val) (BitVec.ofNat 32 r.val)) 4294967294#32)
              (f 0x3DF5EBA9) (f 0)))))
      = f (bandNat r.val c.val) := by
  have h0 := shift_iff r c 0 (by omega)
  have h1 := shift_iff r c 1 (by omega)
  have h2 := shift_iff r c 2 (by omega)
  have h3 := shift_iff r c 3 (by omega)
  have h4 := shift_iff r c 4 (by omega)
  rw [show BitVec.ofNat 32 (4294967294 + 0) = 4294967294#32 from rfl] at h0
  rw [show BitVec.ofNat 32 (4294967294 + 1) = 4294967295#32 from rfl] at h1
  rw [show BitVec.ofNat 32 (4294967294 + 2) = 0#32 from rfl] at h2
  rw [show BitVec.ofNat 32 (4294967294 + 3) = 1#32 from rfl] at h3
  rw [show BitVec.ofNat 32 (4294967294 + 4) = 2#32 from rfl] at h4
  simp only [select_eq, h0, h1, h2, h3, h4, bandNat, Bool.cond_eq_ite, Bool.or_eq_true, beq_iff_eq]
  repeat' split
  all_goals first | rfl | omega

end Cert.Proof.Band
-- ==== Proof.Consts.lean ====
/-
  THE FLOAT CONSTANTS of the two programs, as the extended reals that their bits denote.
-/
module

public import Idealize.ShloMosaic.PureOps.Ideal

@[expose] public section

noncomputable section

namespace Cert.Proof.Consts

open Idealize.ShloMosaic

/-- The outer weight of the blur, about 0.1201. -/
theorem outer : Ideal.ofBits .f32 0x3DF5EBA9#32 = ((16116649 / 134217728 : ℝ) : EReal) := by
  simp [Ideal.ofBits, Ideal.ieee, -EReal.coe_mul]; norm_num

/-- The inner weight, about 0.2339. -/
theorem inner : Ideal.ofBits .f32 0x3E6F7E6F#32 = ((15695471 / 67108864 : ℝ) : EReal) := by
  simp [Ideal.ofBits, Ideal.ieee, -EReal.coe_mul]; norm_num

/-- The middle weight, about 0.2921. -/
theorem middle : Ideal.ofBits .f32 0x3E958BBC#32 = ((9800636 / 33554432 : ℝ) : EReal) := by
  simp [Ideal.ofBits, Ideal.ieee, -EReal.coe_mul]; norm_num

/-- The snow's grey: the float32 number nearest to 0.95. -/
theorem snow : Ideal.ofBits .f32 0x3F733333#32 = ((15938355 / 16777216 : ℝ) : EReal) := by
  simp [Ideal.ofBits, Ideal.ieee, -EReal.coe_mul]; norm_num

end Cert.Proof.Consts

end
-- ==== Proof.Stencil.lean ====
/-
  THE EQUATION. Multiplying an image by the band matrix from both sides is the sum of its 25 shifted products. Over the
  extended reals, of which the pixels may be any, infinite ones too: the weights are finite and not negative, and by such a
  number multiplication distributes over every sum.
-/
module

public import proofs.«01_k».proof.Proof.Band
public import proofs.«01_k».proof.Proof.Consts
public import proofs.«01_k».proof.ReferenceIdeal
public import Idealize.ShloMosaic.PureOps.Ideal.Laws
public import Mathlib.Data.EReal.Operations
public import Mathlib.Algebra.BigOperators.Fin
public import Mathlib.Algebra.BigOperators.Ring.Finset

@[expose] public section

noncomputable section

namespace Cert.Proof.Stencil

open Idealize.ShloMosaic

/-- The five weights of the blur, as the reference's table gives them. -/
def weight (k : Fin 5) : EReal := Ideal.ofBits .f32 (Cert.ReferenceIdeal.lit3 k)

/-- The kernel's band matrix. -/
def band (r c : Fin 224) : EReal := Ideal.ofBits .f32 (BitVec.ofNat 32 (Band.bandNat r c))

theorem weight_real (k : Fin 5) : ∃ w : ℝ, 0 ≤ w ∧ weight k = (w : EReal) := by
  fin_cases k
  · exact ⟨_, by norm_num, Consts.outer⟩
  · exact ⟨_, by norm_num, Consts.inner⟩
  · exact ⟨_, by norm_num, Consts.middle⟩
  · exact ⟨_, by norm_num, Consts.inner⟩
  · exact ⟨_, by norm_num, Consts.outer⟩

/-- A weight distributes over every sum. -/
theorem weight_mul_sum (k : Fin 5) {ι : Type} (s : Finset ι) (f : ι → EReal) :
    weight k * ∑ i ∈ s, f i = ∑ i ∈ s, weight k * f i := by
  obtain ⟨w, hw, e⟩ := weight_real k
  classical
  induction s using Finset.induction_on with
  | empty => simp
  | insert a s ha ih =>
    rw [Finset.sum_insert ha, Finset.sum_insert ha, ← ih, e]
    exact EReal.left_distrib_of_nonneg_of_ne_top (by exact_mod_cast hw) (EReal.coe_ne_top w) _ _

/-- The band matrix's entry is the weight of the distance from the diagonal, zero outside the band. -/
theorem band_eq (r c : Fin 224) :
    band r c = ∑ k : Fin 5, if c.val + 2 = r.val + k.val then weight k else 0 := by
  have hz : Ideal.ofBits .f32 (BitVec.ofNat 32 0) = 0 := Ideal.ofBits_zero_f32
  have hw : ∀ k : Fin 5, c.val + 2 = r.val + k.val →
      (∑ k : Fin 5, if c.val + 2 = r.val + k.val then weight k else 0) = weight k := by
    intro k hk
    rw [Finset.sum_eq_single k, if_pos hk]
    · intro j _ hj
      rw [if_neg fun h => hj (Fin.ext (by omega))]
    · exact fun h => absurd (Finset.mem_univ k) h
  unfold band Band.bandNat
  by_cases h2 : c.val + 2 = r.val + 2
  · rw [hw 2 h2, show (c.val == r.val) = true by simpa using h2, cond_true]; rfl
  rw [show (c.val == r.val) = false by simpa using h2, cond_false]
  by_cases h3 : c.val + 2 = r.val + 3
  · rw [hw 3 h3, show (c.val == r.val + 1 || r.val == c.val + 1) = true by simp; omega, cond_true]; rfl
  by_cases h1 : c.val + 2 = r.val + 1
  · rw [hw 1 h1, show (c.val == r.val + 1 || r.val == c.val + 1) = true by simp; omega, cond_true]; rfl
  rw [show (c.val == r.val + 1 || r.val == c.val + 1) = false by simp; omega, cond_false]
  by_cases h4 : c.val + 2 = r.val + 4
  · rw [hw 4 h4, show (c.val == r.val + 2 || r.val == c.val + 2) = true by simp; omega, cond_true]; rfl
  by_cases h0 : c.val + 2 = r.val + 0
  · rw [hw 0 h0, show (c.val == r.val + 2 || r.val == c.val + 2) = true by simp; omega, cond_true]; rfl
  rw [show (c.val == r.val + 2 || r.val == c.val + 2) = false by simp; omega, cond_false, hz]
  refine (Finset.sum_eq_zero fun k _ => if_neg fun h => ?_).symm
  have := k.isLt
  omega

/-- The band matrix is symmetric. -/
theorem band_symm (r c : Fin 224) : band r c = band c r := by
  have e : Band.bandNat r c = Band.bandNat c r := by
    unfold Band.bandNat
    rw [Bool.or_comm (c.val == r.val + 1), Bool.or_comm (c.val == r.val + 2),
      show (c.val == r.val) = (r.val == c.val) from Bool.beq_comm]
  unfold band
  rw [e]

/-- A line of pixels with two zeros before and after it, read at position `n`. -/
def padLine (h : Fin 224 → EReal) (n : Nat) : EReal :=
  if hn : 2 ≤ n ∧ n < 226 then h ⟨n - 2, by omega⟩ else 0

/-- A sum over the five positions that names one of them, or none. -/
theorem sum_at (r c : Nat) (f : Fin 5 → EReal) :
    (∃ k : Fin 5, c + 2 = r + k.val ∧ (∑ k : Fin 5, if c + 2 = r + k.val then f k else 0) = f k)
      ∨ ((∀ k : Fin 5, c + 2 ≠ r + k.val) ∧ (∑ k : Fin 5, if c + 2 = r + k.val then f k else 0) = 0) := by
  by_cases h : ∃ k : Fin 5, c + 2 = r + k.val
  · obtain ⟨k, hk⟩ := h
    refine .inl ⟨k, hk, ?_⟩
    rw [Finset.sum_eq_single k, if_pos hk]
    · exact fun j _ hj => if_neg fun h => hj (Fin.ext (by omega))
    · exact fun h => absurd (Finset.mem_univ k) h
  · exact .inr ⟨fun k hk => h ⟨k, hk⟩, Finset.sum_eq_zero fun k _ => if_neg fun hk => h ⟨k, hk⟩⟩

/-- One product by the band matrix is five shifted products. -/
theorem sum_band (h : Fin 224 → EReal) (r : Fin 224) :
    ∑ c, band r c * h c = ∑ k : Fin 5, weight k * padLine h (r.val + k.val) := by
  have e : ∀ c, band r c * h c = ∑ k : Fin 5, if c.val + 2 = r.val + k.val then weight k * h c else 0 := by
    intro c
    rw [band_eq]
    rcases sum_at r c weight with ⟨k, hk, e⟩ | ⟨hn, e⟩
    · rw [e]
      rcases sum_at r c (fun k => weight k * h c) with ⟨k', hk', e'⟩ | ⟨hn, -⟩
      · rw [e', show k = k' from Fin.ext (by omega)]
      · exact absurd hk (hn k)
    · rw [e, zero_mul]
      exact (Finset.sum_eq_zero fun k _ => if_neg (hn k)).symm
  simp only [e]
  rw [Finset.sum_comm]
  refine Finset.sum_congr rfl fun k _ => ?_
  unfold padLine
  by_cases hn : 2 ≤ r.val + k.val ∧ r.val + k.val < 226
  · rw [dif_pos hn, Finset.sum_eq_single ⟨r.val + k.val - 2, by omega⟩]
    · exact if_pos (by show r.val + k.val - 2 + 2 = _; omega)
    · exact fun c _ hc => if_neg fun h => hc (Fin.ext (by show c.val = r.val + k.val - 2; omega))
    · exact fun h => absurd (Finset.mem_univ _) h
  · rw [dif_neg hn, mul_zero]
    refine Finset.sum_eq_zero fun c _ => if_neg fun h => hn ?_
    have := c.isLt
    omega

/-- An image with two rows and columns of zeros around it, read at row `m` and column `n`. -/
def padImage (s : Fin 224 → Fin 224 → EReal) (m n : Nat) : EReal :=
  if h : (2 ≤ m ∧ m < 226) ∧ (2 ≤ n ∧ n < 226) then s ⟨m - 2, by omega⟩ ⟨n - 2, by omega⟩ else 0

/-- The blur of the image `s` at the pixel `(i, j)`: the sum of 25 shifted products. -/
def blur (s : Fin 224 → Fin 224 → EReal) (i j : Fin 224) : EReal :=
  ∑ a : Fin 5, ∑ b : Fin 5, weight a * weight b * padImage s (i.val + a.val) (j.val + b.val)

/-- Multiplying by the band matrix from the left and then from the right is the blur. -/
theorem band_mul_mul (s : Fin 224 → Fin 224 → EReal) (i j : Fin 224) :
    ∑ q, (∑ p, band i p * s p q) * band q j = blur s i j := by
  have e : ∀ q, (∑ p, band i p * s p q) * band q j
      = band j q * ∑ a : Fin 5, weight a * padLine (fun p => s p q) (i.val + a.val) := by
    intro q
    rw [sum_band (fun p => s p q) i, band_symm q j, mul_comm]
  simp only [e]
  rw [sum_band (fun q => ∑ a : Fin 5, weight a * padLine (fun p => s p q) (i.val + a.val)) j]
  unfold blur
  rw [Finset.sum_comm]
  refine Finset.sum_congr rfl fun b _ => ?_
  have e2 : padLine (fun q => ∑ a : Fin 5, weight a * padLine (fun p => s p q) (i.val + a.val)) (j.val + b.val)
      = ∑ a : Fin 5, weight a * padImage s (i.val + a.val) (j.val + b.val) := by
    unfold padLine padImage
    by_cases hn : 2 ≤ j.val + b.val ∧ j.val + b.val < 226
    · rw [dif_pos hn]
      refine Finset.sum_congr rfl fun a _ => ?_
      by_cases hm : 2 ≤ i.val + a.val ∧ i.val + a.val < 226
      · rw [dif_pos hm, dif_pos ⟨hm, hn⟩]
      · rw [dif_neg hm, dif_neg fun h => hm h.1]
    · rw [dif_neg hn]
      refine (Finset.sum_eq_zero fun a _ => ?_).symm
      rw [dif_neg fun h => hn h.2, mul_zero]
  rw [e2, weight_mul_sum]
  refine Finset.sum_congr rfl fun a _ => ?_
  rw [← mul_assoc, mul_comm (weight b)]

end Cert.Proof.Stencil

end
-- ==== Proof.Array.lean ====
/-
  WHAT THE ARRAY HOLDS after the kernel's run: every pixel of every image is the blur of the snowed image, clipped.
  The two grid points each write two of the four images.
-/
module

public import proofs.«01_k».proof.Proof.Gen.KernelIdeal.Value
public import proofs.«01_k».proof.Proof.Block
public import proofs.«01_k».proof.Proof.Mask
public import proofs.«01_k».proof.Proof.Stencil
public import Idealize.ShloMosaic.Lib.Pipeline.ValueKit.Tiles
public import Idealize.ShloMosaic.Lib.StableHlo

@[expose] public section

noncomputable section

namespace Cert.Proof.Array

open Idealize.ShloMosaic Idealize.ShloMosaic.TcCoe Cert.KernelIdeal Cert.KernelIdeal.Gen

open Classical in
/-- Channel `c` of image `b` under the snow: the pixels that some patch of the image covers are the snow's grey. -/
def picture (x : S4x3x224x224.Idx → EReal) (b : Fin 4) (c : Fin 3) (p q : Fin 224) : EReal :=
  if ∃ n < 752, Mask.Covers b n p q then Block.snow else x (ix4 b c p q)

/-- What both programs compute at channel `c` of image `b`, pixel `(i, j)`: the picture is blurred and clipped to `[0, 1]`. -/
def target (x : S4x3x224x224.Idx → EReal) (b : Fin 4) (c : Fin 3) (i j : Fin 224) : EReal :=
  min 1 (max 0 (Stencil.blur (picture x b c) i j))

variable (m : (ℓ : Loc nD τ sig) → Buf (Elt Ideal) ℓ)

/-- A table of bytes, spread to the mask's shape, at a pixel. -/
theorem spread_at (f : Fin S4x224x224.numel → BitVec 8) (b : Fin 4) (p q : Fin 224) (h : 50176 * b.val + 224 * p.val + q.val < 200704) :
    broadcastInDim S4x1x224x224 ![0, 2, 3] bcast_S4x224x224_S4x1x224x224_0_2_3 (fun i => f (S4x224x224.rowMajor i)) (ix4 b 0 p q)
      = f ⟨50176 * b.val + 224 * p.val + q.val, h⟩ := by
  pointwise
  refine congrArg f (Fin.ext ?_)
  rw [Shape.rowMajor_val_three]
  show (b.val * 224 + p.val) * 224 + q.val = 50176 * b.val + 224 * p.val + q.val
  omega

/-- The mask's array when the grid starts: nonzero exactly where some patch covers the pixel. -/
theorem mask_entry (c : Dev nD) (b : Fin 4) (p q : Fin 224) :
    V m c main_v0 (ix4 b 0 p q) ≠ 0#8 ↔ ∃ n < 752, Mask.Covers b n p q := by
  have h : 50176 * b.val + 224 * p.val + q.val < 200704 := by omega
  rw [← Mask.table_ne_zero b p q h, ← spread_at lit0 b p q h]
  unfold V
  after_results
  exact Iff.rfl

/-- The matrix's array when the grid starts: the band matrix. -/
theorem band_entry (c : Dev nD) (p q : Fin 224) : V m c main_v29 (ix2 p q) = Stencil.band p q := by
  rw [Stencil.band, ← Band.choices p q fun n => Ideal.ofBits .f32 (BitVec.ofNat 32 n)]
  unfold V
  after_results
  pointwise

/-- Where the windows' blocks lie: the images' two at a time, the matrix whole. -/
theorem idx_facts : ∀ t : Fin cfg0.N, t.val < 2
    ∧ win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

variable (t : Fin cfg0.N)

/-- The image that grid point `t` holds as its `b`-th. -/
def image (b : Fin 2) : Fin 4 := ⟨2 * t.val + b.val, by have := (idx_facts t).1; omega⟩

theorem emb0 (b : Fin 2) (ch : Fin 3) (i j : Fin 224) :
    ((cfg0.win 0).blk t).view.emb (ix4 b ch i j) = ix4 (image t b) ch i j := by
  obtain ⟨_, e0, e1, e2, e3, _⟩ := idx_facts t
  funext a; apply Fin.ext
  match a with
  | ⟨0, _⟩ => show win0_0.index t (0 : Fin 4) * 2 + 1 * b.val = 2 * t.val + b.val; omega
  | ⟨1, _⟩ => show win0_0.index t (1 : Fin 4) * 3 + 1 * ch.val = ch.val; omega
  | ⟨2, _⟩ => show win0_0.index t (2 : Fin 4) * 224 + 1 * i.val = i.val; omega
  | ⟨3, _⟩ => show win0_0.index t (3 : Fin 4) * 224 + 1 * j.val = j.val; omega

theorem emb1 (b : Fin 2) (i j : Fin 224) :
    ((cfg0.win 1).blk t).view.emb (ix4 b 0 i j) = ix4 (image t b) 0 i j := by
  obtain ⟨_, _, _, _, _, e0, e1, e2, e3, _⟩ := idx_facts t
  funext a; apply Fin.ext
  match a with
  | ⟨0, _⟩ => show win0_1.index t (0 : Fin 4) * 2 + 1 * b.val = 2 * t.val + b.val; omega
  | ⟨1, _⟩ => show win0_1.index t (1 : Fin 4) * 1 + 1 * 0 = 0; omega
  | ⟨2, _⟩ => show win0_1.index t (2 : Fin 4) * 224 + 1 * i.val = i.val; omega
  | ⟨3, _⟩ => show win0_1.index t (3 : Fin 4) * 224 + 1 * j.val = j.val; omega

theorem emb2 (i j : Fin 224) : ((cfg0.win 2).blk t).view.emb (ix2 i j) = ix2 i j := by
  obtain ⟨_, _, _, _, _, _, _, _, _, e0, e1, _⟩ := idx_facts t
  funext a; apply Fin.ext
  match a with
  | ⟨0, _⟩ => show win0_2.index t (0 : Fin 2) * 224 + 1 * i.val = i.val; omega
  | ⟨1, _⟩ => show win0_2.index t (1 : Fin 2) * 224 + 1 * j.val = j.val; omega

theorem emb3 (b : Fin 2) (ch : Fin 3) (i j : Fin 224) :
    ((cfg0.win 3).blk t).view.emb (ix4 b ch i j) = ix4 (image t b) ch i j := by
  obtain ⟨_, _, _, _, _, _, _, _, _, _, _, e0, e1, e2, e3⟩ := idx_facts t
  funext a; apply Fin.ext
  match a with
  | ⟨0, _⟩ => show win0_3.index t (0 : Fin 4) * 2 + 1 * b.val = 2 * t.val + b.val; omega
  | ⟨1, _⟩ => show win0_3.index t (1 : Fin 4) * 3 + 1 * ch.val = ch.val; omega
  | ⟨2, _⟩ => show win0_3.index t (2 : Fin 4) * 224 + 1 * i.val = i.val; omega
  | ⟨3, _⟩ => show win0_3.index t (3 : Fin 4) * 224 + 1 * j.val = j.val; omega

/-- The pixels that grid point `t` reads. -/
theorem pixels (c : Dev nD) (b : Fin 2) (ch : Fin 3) (i j : Fin 224) :
    iblk m c 0 t (ix4 b ch i j) = m ((c : Thread nD τ).loc main_arg0) (ix4 (image t b) ch i j) := by
  rw [← V_main_arg0 m c]
  show V m c main_arg0 (((cfg0.win 0).blk t).view.emb (ix4 b ch i j)) = _
  rw [emb0]

/-- The bytes of the mask that grid point `t` reads. -/
theorem bytes (c : Dev nD) (b : Fin 2) (i j : Fin 224) :
    iblk m c 1 t (ix4 b 0 i j) = V m c main_v0 (ix4 (image t b) 0 i j) := by
  show V m c main_v0 (((cfg0.win 1).blk t).view.emb (ix4 b 0 i j)) = _
  rw [emb1]

/-- The matrix that grid point `t` reads. -/
theorem matrix (c : Dev nD) (i j : Fin 224) : iblk m c 2 t (ix2 i j) = Stencil.band i j := by
  rw [← band_entry m c]
  show V m c main_v29 (((cfg0.win 2).blk t).view.emb (ix2 i j)) = _
  rw [emb2]

/-- Where the grid point writes, the array holds the target. -/
theorem written (c : Dev nD) (b : Fin 2) (ch : Fin 3) (i j : Fin 224) :
    (dats m 0 c).arrAt 3 cfg0.N (ix4 (image t b) ch i j)
      = target (m ((c : Thread nD τ).loc main_arg0)) (image t b) ch i j := by
  have h := congrFun (Value.blocks3 m c t ((by decide +kernel : ∀ t : Fin grid0.N, (cfg0.win 3).flush t = true) t)) (ix4 b ch i j)
  rw [Value.flushed3, Block.out_eq] at h
  have h' : (dats m 0 c).arrAt 3 cfg0.N (((cfg0.win 3).blk t).view.emb (ix4 b ch i j))
      = Block.block (iblk m c 0 t) (iblk m c 1 t) (iblk m c 2 t) (ix4 b ch i j) := h
  rw [emb3] at h'
  rw [h']
  show Block.channel (fun r c' => iblk m c 2 t (ix2 r c')) (Block.snowed (fun p q => iblk m c 1 t (ix4 b 0 p q))
    (fun p q => iblk m c 0 t (ix4 b ch p q))) i j = _
  unfold Block.channel target
  simp only [matrix]
  rw [Stencil.band_mul_mul]
  congr 4
  funext p q
  unfold Block.snowed picture
  beta_reduce
  rw [bytes, pixels]
  by_cases hc : ∃ n < 752, Mask.Covers (image t b) n p q
  · rw [if_pos hc, if_neg ((mask_entry m c _ p q).2 hc)]
  · rw [if_neg hc, if_pos (not_not.1 fun hn => hc ((mask_entry m c _ p q).1 hn))]

/-- After the run the whole array is the target. -/
theorem array_eq (c : Dev nD) (b : Fin 4) (ch : Fin 3) (i j : Fin 224) :
    (dats m 0 c).arrAt 3 cfg0.N (ix4 b ch i j) = target (m ((c : Thread nD τ).loc main_arg0)) b ch i j := by
  have hN : cfg0.N = 2 := by decide
  obtain ⟨t, k, rfl⟩ : ∃ (t : Fin cfg0.N) (k : Fin 2), b = image t k :=
    ⟨⟨b.val / 2, by omega⟩, ⟨b.val % 2, by omega⟩, Fin.ext (by show b.val = 2 * (b.val / 2) + b.val % 2; omega)⟩
  exact written m t c k ch i j

end Cert.Proof.Array

end
-- ==== Proof.RefMask.lean ====
/-
  THE REFERENCE'S MASK. Its program compares, for every patch of an image, the distances of a pixel's row and column to
  the patch's centre with the patch's radius, as signed words; the mask is the "or" over the patches.
-/
module

public import proofs.«01_k».proof.Proof.Gen.ReferenceIdeal.Run
public import proofs.«01_k».proof.Proof.Mask
public import Idealize.ShloMosaic.Lib.Pointwise
public import Idealize.ShloMosaic.Lib.Affine
public import Idealize.ShloMosaic.Lib.Routing.OpsOrder

@[expose] public section

set_option maxRecDepth 16384

noncomputable section

namespace Cert.Proof.RefMask

open Idealize.ShloMosaic Cert.ReferenceIdeal Cert.ReferenceIdeal.Gen

/-- The distance of the position `a` to the word `d` is at most the word `r`. -/
def near (a : Nat) (d r : BitVec 32) : BitVec 1 :=
  IntOp.cmpi CmpIPredicate.sle (IntOp.absi (IntOp.subi (BitVec.ofNat 32 a) d)) r

/-- For small words the signed comparison is the one of natural numbers. -/
theorem near_iff (a : Nat) (d r : BitVec 32) (ha : a < 224) (hd : d.toNat < 224) (hr : r.toNat < 4) :
    near a d r = 1#1 ↔ a ≤ d.toNat + r.toNat ∧ d.toNat ≤ a + r.toNat := by
  have hs : (BitVec.ofNat 32 a - d).toNat = (2 ^ 32 - d.toNat + a) % 2 ^ 32 := by
    rw [BitVec.toNat_sub, BitVec.toNat_ofNat, Nat.mod_eq_of_lt (show a < 2 ^ 32 by omega)]
  unfold near
  rw [IntOp.cmpi_sle, BitVec.toInt_eq_toNat_of_lt (x := r) (by omega)]
  unfold IntOp.absi IntOp.subi
  by_cases h : d.toNat ≤ a
  · have hn : (BitVec.ofNat 32 a - d).toNat = a - d.toNat := by omega
    have hm : (BitVec.ofNat 32 a - d).msb = false := by
      rw [BitVec.msb_eq_decide, hn, decide_eq_false_iff_not]; omega
    rw [hm, if_neg (by simp), BitVec.toInt_eq_toNat_of_lt (by omega), hn]
    omega
  · have hm : (BitVec.ofNat 32 a - d).msb = true := by
      rw [BitVec.msb_eq_decide, decide_eq_true_iff]; omega
    have hn : (-(BitVec.ofNat 32 a - d)).toNat = d.toNat - a := by
      rw [BitVec.toNat_neg]; omega
    rw [hm, if_pos rfl, BitVec.toInt_eq_toNat_of_lt (by omega), hn]
    omega

theorem and_eq_one (x y : BitVec 1) : IntOp.andi x y = 1#1 ↔ x = 1#1 ∧ y = 1#1 := by
  revert x y; decide

variable (fy fx fr : Fin S4x752.numel → BitVec 32)

/-- The reference's mask from three tables: the rows and columns of the centres, and the radii. -/
abbrev mask : Vec Ideal S4x224x224 .i1 :=
  Host.reduce IntOp.ori (andi (broadcastInDim S4x752x224x224 ![0, 1, 2, 3] bcast_S4x752x224x1_S4x752x224x224_0_1_2_3 (broadcastInDim S4x752x224x1 ![0, 1, 2] bcast_S4x752x224_S4x752x224x1_0_1_2 (cmpi .sle (absi (subi (broadcastInDim S4x752x224 ![0, 1, 2] bcast_S1x1x224_S4x752x224_0_1_2 (broadcastInDim S1x1x224 ![2] bcast_S224_S1x1x224_2 (iotaInDim S224 32 0))) (broadcastInDim S4x752x224 ![0, 1, 2] bcast_S4x752x1_S4x752x224_0_1_2 (broadcastInDim S4x752x1 ![0, 1] bcast_S4x752_S4x752x1_0_1 (fun i => fy (S4x752.rowMajor i)))))) (broadcastInDim S4x752x224 ![0, 1, 2] bcast_S4x752x1_S4x752x224_0_1_2 (broadcastInDim S4x752x1 ![0, 1] bcast_S4x752_S4x752x1_0_1 (fun i => fr (S4x752.rowMajor i))))))) (broadcastInDim S4x752x224x224 ![0, 1, 2, 3] bcast_S4x752x1x224_S4x752x224x224_0_1_2_3 (broadcastInDim S4x752x1x224 ![0, 1, 3] bcast_S4x752x224_S4x752x1x224_0_1_3 (cmpi .sle (absi (subi (broadcastInDim S4x752x224 ![0, 1, 2] bcast_S1x1x224_S4x752x224_0_1_2 (broadcastInDim S1x1x224 ![2] bcast_S224_S1x1x224_2 (iotaInDim S224 32 0))) (broadcastInDim S4x752x224 ![0, 1, 2] bcast_S4x752x1_S4x752x224_0_1_2 (broadcastInDim S4x752x1 ![0, 1] bcast_S4x752_S4x752x1_0_1 (fun i => fx (S4x752.rowMajor i)))))) (broadcastInDim S4x752x224 ![0, 1, 2] bcast_S4x752x1_S4x752x224_0_1_2 (broadcastInDim S4x752x1 ![0, 1] bcast_S4x752_S4x752x1_0_1 (fun i => fr (S4x752.rowMajor i)))))))) (constantI S_ 1 0#1) reducesTo_S4x752x224x224_S4x224x224_d1 h_S_

/-- The mask at a pixel: some patch is near in both directions. -/
theorem mask_at (b : Fin 4) (p q : Fin 224) :
    mask fy fx fr (ix3 b p q) = 1#1 ↔ ∃ n : Fin 752, near p (fy (S4x752.rowMajor (ix2 b n))) (fr (S4x752.rowMajor (ix2 b n))) = 1#1
      ∧ near q (fx (S4x752.rowMajor (ix2 b n))) (fr (S4x752.rowMajor (ix2 b n))) = 1#1 := by
  pointwise [mask]
  rw [Routing.fold_ori]
  simp only [Finset.mem_univ, true_and, and_eq_one]
  exact Iff.rfl

/-- A table of draws at an image and a patch. -/
theorem draw_at (f : Fin S4x752.numel → BitVec 32) (g : Nat → BitVec 32) (hg : ∀ k, f k = g k.val) (b : Fin 4) (n : Fin 752) :
    f (S4x752.rowMajor (ix2 b n)) = g (752 * b.val + n.val) := by
  rw [hg, Shape.rowMajor_val_two]
  refine congrArg g ?_
  show b.val * 752 + n.val = 752 * b.val + n.val
  omega

/-- The mask is set exactly where some patch covers the pixel, the tables being the reference's draws. -/
theorem mask_covers_of (hy : ∀ k, fy k = lit0t k.val) (hx : ∀ k, fx k = lit1t k.val) (hr : ∀ k, fr k = lit2t k.val)
    (b : Fin 4) (p q : Fin 224) : mask fy fx fr (ix3 b p q) = 1#1 ↔ ∃ n < 752, Mask.Covers b n p q := by
  rw [mask_at]
  have key : ∀ n : Fin 752, (near p (fy (S4x752.rowMajor (ix2 b n))) (fr (S4x752.rowMajor (ix2 b n))) = 1#1
      ∧ near q (fx (S4x752.rowMajor (ix2 b n))) (fr (S4x752.rowMajor (ix2 b n))) = 1#1) ↔ Mask.Covers b n p q := by
    intro n
    obtain ⟨sy, sx, sr⟩ := Mask.draw_small (752 * b.val + n.val) (by omega)
    rw [draw_at fy lit0t hy, draw_at fx lit1t hx, draw_at fr lit2t hr,
      near_iff _ _ _ p.isLt sy sr, near_iff _ _ _ q.isLt sx sr]
    exact Iff.rfl
  simp only [key]
  exact ⟨fun ⟨n, h⟩ => ⟨n.val, n.isLt, h⟩, fun ⟨n, hn, h⟩ => ⟨⟨n, hn⟩, h⟩⟩

/-- The reference's mask is set exactly where some patch covers the pixel. -/
theorem mask_covers (b : Fin 4) (p q : Fin 224) :
    mask lit0 lit1 lit2 (ix3 b p q) = 1#1 ↔ ∃ n < 752, Mask.Covers b n p q :=
  mask_covers_of lit0 lit1 lit2 (fun _ => rfl) (fun _ => rfl) (fun _ => rfl) b p q

end Cert.Proof.RefMask

end
-- ==== Proof.RefValue.lean ====
/-
  WHAT THE REFERENCE COMPUTES: its result at an index is the target. The overwritten image is padded by two pixels on each
  side, 25 shifted copies of it are weighted and added, and the sum is clipped.
-/
module

public import proofs.«01_k».proof.Proof.RefMask
public import proofs.«01_k».proof.Proof.Array
public import Idealize.ShloMosaic.Lib.IdealHost

@[expose] public section

set_option maxRecDepth 16384

noncomputable section

namespace Cert.Proof.RefValue

open Idealize.ShloMosaic Cert.ReferenceIdeal Cert.ReferenceIdeal.Gen Cert.ReferenceIdeal.Value

variable (V0 : Valuation τ sig (Elt Ideal))

/-- The matrix of weights is the outer product of the five weights. -/
theorem weights_at (a b : Fin 5) : res_main_v32 (F := Ideal) V0 (ix2 a b) = Stencil.weight a * Stencil.weight b := by
  pointwise [res_main_v32, res_main_cst]
  unfold Stencil.weight
  have h : ∀ k : Fin 5, S5.rowMajor (ix1 k) = k := fun k => Fin.ext (by rw [Shape.rowMajor_val_one]; rfl)
  rw [h, h]

/-- The pixels that some patch covers overwritten by the reference's grey. -/
abbrev overwritten (k : Vec Ideal S4x224x224 .i1) (x : FVec Ideal S4x3x224x224 .f32) : FVec Ideal S4x3x224x224 .f32 :=
  select (broadcastInDim S4x3x224x224 ![0, 1, 2, 3] bcast_S4x1x224x224_S4x3x224x224_0_1_2_3 (broadcastInDim S4x1x224x224 ![0, 2, 3] bcast_S4x224x224_S4x1x224x224_0_2_3 k)) (broadcastInDim S4x3x224x224 ![] bcast_S_S4x3x224x224 (constant S_ .f32 0x3F733333#32)) x

theorem overwritten_at (k : Vec Ideal S4x224x224 .i1) (x : FVec Ideal S4x3x224x224 .f32) (b : Fin 4) (c : Fin 3) (p q : Fin 224) :
    overwritten k x (ix4 b c p q) = if k (ix3 b p q) = 1#1 then Block.snow else x (ix4 b c p q) := by
  pointwise [overwritten]
  rw [Consts.snow]
  rfl

/-- A vector padded by two zeros on each side of its last two axes. -/
theorem pad_at (x : FVec Ideal S4x3x224x224 .f32) (b : Fin 4) (c : Fin 3) (m n : Fin 228) :
    pad S4x3x228x228 ![0, 0, 2, 2] ![0, 0, 2, 2] ![0, 0, 0, 0] x (sitofp .f32 (constantI S_ 32 0#32)) pads_S4x3x224x224_S4x3x228x228_000_000_220_220 h_S_ (ix4 b c m n)
      = Stencil.padImage (fun p q => x (ix4 b c p q)) m n := by
  have hz : (FloatOps.sitofp (F := Ideal) FTy.f32 0#32 : EReal) = 0 := by
    show (((0#32 : BitVec 32).toInt : ℝ) : EReal) = 0
    simp
  pointwise
  unfold Stencil.padImage
  by_cases h : (2 ≤ m.val ∧ m.val < 226) ∧ 2 ≤ n.val ∧ n.val < 226
  · rw [dif_pos h, dif_pos (by omega)]
  · rw [dif_neg h, dif_neg (by omega), hz]

/-- The padded picture at a pixel of the frame of 228 by 228. -/
theorem padded_at (b : Fin 4) (c : Fin 3) (m n : Fin 228) : res_main_v33 (F := Ideal) V0 (ix4 b c m n)
    = Stencil.padImage (Array.picture (V0 (Proc.devRef .tc main_arg0)) b c) m n := by
  refine (pad_at (overwritten (RefMask.mask lit0 lit1 lit2) (V0 (Proc.devRef .tc main_arg0))) b c m n).trans ?_
  refine congrArg (fun s => Stencil.padImage s m n) ?_
  funext p q
  rw [overwritten_at]
  unfold Array.picture
  by_cases h : ∃ n < 752, Mask.Covers b n p q
  · rw [if_pos h, if_pos ((RefMask.mask_covers b p q).2 h)]
  · rw [if_neg h, if_neg (fun hk => h ((RefMask.mask_covers b p q).1 hk))]

variable (m : (ℓ : Loc nD τ sig) → Buf (Elt Ideal) ℓ) (ρ : Dev nD → PrngReg)

/-- The reference's run: at every index the result is the target, and the argument is as launched. -/
theorem run_target : θ_run defs (onTc (τ := τ) (main (F := Ideal))) ⟨m, fun _ => 0, ρ⟩ fun r => ∀ c : Dev nD,
    (∀ (b : Fin 4) (ch : Fin 3) (i j : Fin 224), r.2.mem ((c.tc : Thread nD τ).loc main_v185) (ix4 b ch i j)
      = Array.target (m ((c.tc : Thread nD τ).loc main_arg0)) b ch i j)
    ∧ r.2.mem ((c.tc : Thread nD τ).loc main_arg0) = m ((c.tc : Thread nD τ).loc main_arg0) := by
  refine (θ_run defs _ _).mono (fun r h c => ⟨fun b ch i j => (congrFun (h c).1 (ix4 b ch i j)).trans ?_, (h c).2⟩)
    (run (F := Ideal) m ρ)
  pointwise [res_main_v118, id_eq]
  simp only [weights_at, padded_at]
  unfold Array.target Stencil.blur
  simp only [Fin.sum_univ_five, Ideal.ofBits_zero_f32, Ideal.ofBits_one_f32, zero_add, add_assoc]
  have hi : ∀ k : Nat, k + i.val = i.val + k := fun k => Nat.add_comm k i
  have hj : ∀ k : Nat, k + j.val = j.val + k := fun k => Nat.add_comm k j
  have hV : StableHlo.launchContents m c (Proc.devRef .tc main_arg0) = m ((c.tc : Thread nD τ).loc main_arg0) := rfl
  simp only [hi, hj]
  rw [hV]
  generalize Stencil.padImage (Array.picture (m ((c.tc : Thread nD τ).loc main_arg0)) b ch) = P
  generalize Stencil.weight = w
  rfl

end Cert.Proof.RefValue

end
-- ==== Proof.lean ====
/-
  THE CERTIFICATE. The three programs run, end with every semaphore at zero and keep their argument; the ideal kernel is
  the kernel with the snow's grey named; and the ideal kernel's result equals the ideal reference's at every index.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The ideal reference runs, keeps its argument and leaves no semaphore raised. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (RefValue.run_target m ρ)

/-- The grey that the kernel spells in bfloat16 carries the name of the real number that it stands for. -/
theorem preserves : Cert.preserves_Kernel_KernelIdeal :=
  IdealRules.named_const.statement Cert.KernelIdeal.κ "snow" .bf16 0x3F73#16 ((15938355 / 16777216 : ℝ) : EReal) rfl

/-- From equal arguments the ideal kernel and the ideal reference end with equal results. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun r h c => ⟨?_, (h c).2⟩) (RefValue.run_target m' ρ')
  funext (y : Cert.KernelIdeal.S4x3x224x224.Idx)
  obtain ⟨b, ch, i, j, rfl⟩ : ∃ (b : Fin 4) (ch : Fin 3) (i j : Fin 224), y = ix4 b ch i j :=
    ⟨y 0, y 1, y 2, y 3, eq_ix4 y⟩
  refine ((h c).1 b ch i j).trans (Eq.trans ?_ (Array.array_eq m c b ch i j).symm)
  exact congrArg (fun x => Array.target x b ch i j) (hagree c)

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_ri, preserves, algebraic⟩

end Cert.Proof

end
